-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v2) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ bitexact_Kernel_Reference (hKernel := hKernel) (hReference := hReference)
    ∧ preserves_Kernel_KernelIdeal
    ∧ algebraic_KernelIdeal_ReferenceIdeal (hKernelIdeal := hKernelIdeal) (hReferenceIdeal := hReferenceIdeal)
-- ==== Kernel.lean ====
abbrev S64x1x160000 : Shape := ⟨3, ![64, 1, 160000]⟩
abbrev S_ : Shape := ⟨0, ![]⟩
abbrev S640x16000 : Shape := ⟨2, ![640, 16000]⟩
abbrev S8x16000 : Shape := ⟨2, ![8, 16000]⟩

abbrev nBuf : Space → Nat
  | .hbm => 5
  | .vmem => 4
  | .smem => 0
  | _ => 0

abbrev bufTy : (tb : Table) → Fin (tcTables nBuf tb) → BufTy
  | .hbm, ⟨0, _⟩ => ⟨S64x1x160000, .f32⟩
  | .hbm, ⟨1, _⟩ => ⟨S_, .i32⟩
  | .hbm, ⟨2, _⟩ => ⟨S640x16000, .f32⟩
  | .hbm, ⟨3, _⟩ => ⟨S640x16000, .f32⟩
  | .hbm, ⟨4, _⟩ => ⟨S64x1x160000, .f32⟩
  | .local _ .vmem, ⟨0, _⟩ => ⟨S8x16000, .f32⟩
  | .local _ .vmem, ⟨1, _⟩ => ⟨S8x16000, .f32⟩
  | .local _ .vmem, ⟨2, _⟩ => ⟨S8x16000, .f32⟩
  | .local _ .vmem, ⟨3, _⟩ => ⟨S8x16000, .f32⟩
  | _, _ => ⟨S64x1x160000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x16000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S64x1x160000 : Shape := ⟨3, ![64, 1, 160000]⟩
abbrev S_ : Shape := ⟨0, ![]⟩
abbrev S64 : Shape := ⟨1, ![64]⟩

abbrev nBuf : Space → Nat
  | .hbm => 7
  | .vmem => 0
  | .smem => 0
  | _ => 0

abbrev bufTy : (tb : Table) → Fin (tcTables nBuf tb) → BufTy
  | .hbm, ⟨0, _⟩ => ⟨S64x1x160000, .f32⟩
  | .hbm, ⟨1, _⟩ => ⟨S_, .i32⟩
  | .hbm, ⟨2, _⟩ => ⟨S_, .i1⟩
  | .hbm, ⟨3, _⟩ => ⟨S64, .i1⟩
  | .hbm, ⟨4, _⟩ => ⟨S_, .i1⟩
  | .hbm, ⟨5, _⟩ => ⟨S_, .i1⟩
  | .hbm, ⟨6, _⟩ => ⟨S64x1x160000, .f32⟩
  | _, _ => ⟨S64x1x160000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Proof.Copy.Kernel.lean ====
/- What the kernel as printed (`Kernel`) computes: its result is its first argument.

   The array of 64 waveforms is regrouped into 640 rows of 16000 samples. Point `t` of the grid copies rows
   `8 t … 8 t + 7` from the regrouped argument into the same rows of the region's result, and the 80 points' blocks
   cover all 640 rows. So the region's result is the regrouped argument, and the regrouping after the region undoes
   the one before it. All of this holds for any reading of the floats: no operation touches a sample. -/
module

public import proofs.«01_k».proof.Proof.Gen.Kernel.Frame
public import Idealize.ShloMosaic.Lib.Pipeline.Value
public import Idealize.ShloMosaic.Lib.Claim

@[expose] public section

noncomputable section

open Idealize.ShloMosaic Idealize.ShloMosaic.TcCoe Idealize.SL.Sem
open Idealize.ShloMosaic.Pipeline (Dat)

namespace Cert.Kernel.Copy

open Cert.Kernel Cert.Kernel.Gen

variable {F : FTy → Type} [FloatOps F]
variable (m : (ℓ : Loc nD τ sig) → Buf (Elt F) ℓ) (ρ : Dev nD → PrngReg)

/-- The first argument on core `c`: the waveforms. -/
abbrev samples (c : Dev nD) : Vec F S64x1x160000 .f32 := m ((c : Thread nD τ).loc main_arg0)

/-- The same samples in the same order, in rows of 16000. -/
abbrev rows (c : Dev nD) : Vec F S640x16000 .f32 :=
  shapeCast S640x16000 (samples m c) shapeCasts_S64x1x160000_S640x16000

/-- The region finds the regrouped argument in its input array. -/
theorem entry_rows (c : Dev nD) : V m c main_v0 = rows m c := by
  show StableHlo.after [StableHlo.reshape main_arg0 main_v0 _ _] _ _ = _
  after_results
  rfl

/-- The kernel's body leaves in the output's staging buffer what it found in the input's. -/
theorem body_copies (x : Vec F S8x16000 .f32) : out0_1 x = x := by
  have hz : (![0, 0] : Fin 2 → Nat) = fun _ => 0 := funext fun a => by fin_cases a <;> rfl
  unfold out0_1 k0_pay1
  rw [View.canon_unit_zero hz, View.ld_unit_zero hz, shapeCast_self]

/-- What point `t` writes back is block `t` of the regrouped argument: the input's and the output's blocks at a point
    are the same rows. -/
theorem flushed_eq (c : Dev nD) (t : Fin cfg0.N) :
    (dats m 0 c).flushed 1 t = (win0_1.blk t).view.read (Elt F) (rows m c) := by
  show (cfg0.win 1).cut (grid0.coords t) ((dats m 0 c).after 1 t) = _
  rw [after0_1, body_copies]
  unfold iblk
  rw [show V m c (Pipeline.arrRef spec0 0) = rows m c from entry_rows m c]
  rfl

/-- Every element of the region's result lies in the block of the point that its row divided by 8 names. -/
theorem cover (i : S640x16000.Idx) :
    ∃ t : Fin cfg0.N, (cfg0.win 1).flush t = true ∧ i ∈ ((cfg0.win 1).blk t).view.set := by
  have h0 : (i 0 : Nat) < 640 := (i 0).isLt
  have h1 : (i 1 : Nat) < 16000 := (i 1).isLt
  have hN : cfg0.N = 80 := N_0
  have idx : ∀ t : Fin cfg0.N, win0_1.index t 0 * win0_1.size 0 = t.val * 8 ∧ win0_1.xsize (grid0.coords t) 0 = 8
      ∧ win0_1.index t 1 * win0_1.size 1 = 0 ∧ win0_1.xsize (grid0.coords t) 1 = 16000 := by decide +kernel
  obtain ⟨t, ht⟩ : ∃ t : Fin cfg0.N, t.val = (i 0 : Nat) / 8 := ⟨⟨(i 0 : Nat) / 8, by omega⟩, rfl⟩
  obtain ⟨e0, s0, e1, s1⟩ := idx t
  refine ⟨t, flush0_1 t, ?_⟩
  show i ∈ ((View.whole main_v1).slice (win0_1.rect t)).set
  rw [View.set_slice_whole, Rect.mem_set_unit]
  intro a
  match a with
  | ⟨0, _⟩ =>
    show win0_1.index t 0 * win0_1.size 0 ≤ (i 0 : Nat)
      ∧ (i 0 : Nat) < win0_1.index t 0 * win0_1.size 0 + win0_1.xsize (grid0.coords t) 0
    rw [e0, s0]; omega
  | ⟨1, _⟩ =>
    show win0_1.index t 1 * win0_1.size 1 ≤ (i 1 : Nat)
      ∧ (i 1 : Nat) < win0_1.index t 1 * win0_1.size 1 + win0_1.xsize (grid0.coords t) 1
    rw [e1, s1]; omega

/-- So the region's result ends holding the regrouped argument. -/
theorem region_copies (c : Dev nD) : (dats m 0 c).arrAt 1 cfg0.N = rows m c :=
  (dats m 0 c).arrAt_eq_of_cover 1 (rows m c) (fun t _ => flushed_eq m c t) cover

/-- And the result after the last host line is the argument itself: regrouping there and back changes nothing. -/
theorem result_eq (c : Dev nD) :
    Pipeline.afterTail₀ cfgs (dats m) 0 (V0 m) [hostOps1] c main_v2 = samples m c := by
  unfold Pipeline.afterTail₀
  have h : Pipeline.withArrays spec0 c (V0 m c) (fun w => (dats m 0 c).arrAt w cfg0.N) (Proc.devRef .tc main_v1)
      = rows m c := (Pipeline.withArrays_arr spec0 launch0.win.arr_inj c (V0 m c) _ 1).trans (region_copies m c)
  show StableHlo.after [StableHlo.reshape main_v1 main_v2 _ _] _ _ = _
  after_results
  exact (congrArg (fun x => shapeCast S64x1x160000 x shapeCasts_S640x16000_S64x1x160000) h).trans
    (shapeCast_shapeCast _ _ _)

/-- THE RUN: the kernel terminates with its result equal to its first argument and both arguments unchanged. -/
theorem run : θ_run defs (onTc (τ := τ) (main (F := F))) ⟨m, fun _ => 0, ρ⟩ fun r => ∀ c : Dev nD,
      r.2.mem ((c.tc : Thread nD τ).loc main_v2) = samples m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono (run_main m ρ) fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩

end Cert.Kernel.Copy

end
-- ==== Proof.Copy.Ideal.lean ====
/- What the idealized kernel (`KernelIdeal`) computes: its result is its first argument.

   The ideal pass rewrote no operation, so `KernelIdeal` is `Kernel`'s text under another name, and the run of
   `Kernel`, which is proved for any reading of the floats, is the run of `KernelIdeal`. -/
module

public import proofs.«01_k».proof.Proof.Copy.Kernel
public import proofs.«01_k».proof.Proof.Gen.KernelIdeal

@[expose] public section

noncomputable section

open Idealize.ShloMosaic Idealize.ShloMosaic.TcCoe Idealize.SL.Sem

namespace Cert.KernelIdeal.Copy

open Cert.KernelIdeal Cert.KernelIdeal.Gen

variable {F : FTy → Type} [FloatOps F]
variable (m : (ℓ : Loc nD τ sig) → Buf (Elt F) ℓ) (ρ : Dev nD → PrngReg)

/-- The body tables agree: one row, the kernel's function at the point's staging buffers. -/
theorem defs₀_eq : Cert.Kernel.defs₀ (F := F) = defs₀ (F := F) := by
  unfold Cert.Kernel.defs₀ defs₀
  congr 1
  funext ℓ a
  match ℓ, a with
  | ⟨0, _⟩, _ => rfl

/-- So do the tables that hold the pipeline's own code too. -/
theorem defs_eq : Cert.Kernel.defs (F := F) = defs (F := F) := by
  unfold Cert.Kernel.defs defs
  rw [defs₀_eq]
  rfl

/-- THE RUN: the idealized kernel terminates with its result equal to its first argument and both arguments
    unchanged. -/
theorem run : θ_run defs (onTc (τ := τ) (main (F := F))) ⟨m, fun _ => 0, ρ⟩ fun r => ∀ c : Dev nD,
      r.2.mem ((c.tc : Thread nD τ).loc main_v2) = m ((c.tc : Thread nD τ).loc main_arg0)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have h := Cert.Kernel.Copy.run (F := F) m ρ
  rw [defs_eq] at h
  exact h

end Cert.KernelIdeal.Copy

end
-- ==== Proof.Copy.Reference.lean ====
/- What the reference computes, as printed (`Reference`) and over the extended reals (`ReferenceIdeal`): its result is
   its first argument.

   Whatever the condition is, choosing between an array and itself gives the array. -/
module

public import proofs.«01_k».proof.Proof.Gen.Reference.Run
public import proofs.«01_k».proof.Proof.Gen.ReferenceIdeal.Run
public import Idealize.ShloMosaic.Lib.Claim

@[expose] public section

noncomputable section

open Idealize.ShloMosaic Idealize.ShloMosaic.TcCoe Idealize.SL.Sem

namespace Cert.Copy

/-- A selection between an array and itself is the array. -/
theorem select_same {s : Shape} {α : Type} (p : IVec s 1) (x : s.Idx → α) : select p x x = x :=
  funext fun _ => ite_self _

end Cert.Copy

namespace Cert.Reference.Copy

open Cert.Reference Cert.Reference.Gen

variable {F : FTy → Type} [FloatOps F]
variable (m : (ℓ : Loc nD τ sig) → Buf (Elt F) ℓ) (ρ : Dev nD → PrngReg)

/-- The reference terminates with its result equal to its first argument and both arguments unchanged. -/
theorem run : θ_run defs (onTc (τ := τ) (main (F := F))) ⟨m, fun _ => 0, ρ⟩ fun r => ∀ c : Dev nD,
      r.2.mem ((c.tc : Thread nD τ).loc main_v2) = m ((c.tc : Thread nD τ).loc main_arg0)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono (Cert.Reference.Value.run m ρ) fun _ h c => ⟨(h c).1.trans (Cert.Copy.select_same _ _), (h c).2⟩

/-- Its frame: the arguments end unchanged, and every semaphore counter is zero, since the program has none. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run m ρ) fun r h => ⟨fun c => (h c).2, sem_eq_zero_of_no_sems (by decide) r.2⟩

end Cert.Reference.Copy

namespace Cert.ReferenceIdeal.Copy

open Cert.ReferenceIdeal Cert.ReferenceIdeal.Gen

variable {F : FTy → Type} [FloatOps F]
variable (m : (ℓ : Loc nD τ sig) → Buf (Elt F) ℓ) (ρ : Dev nD → PrngReg)

/-- The idealized reference terminates with its result equal to its first argument and both arguments unchanged. -/
theorem run : θ_run defs (onTc (τ := τ) (main (F := F))) ⟨m, fun _ => 0, ρ⟩ fun r => ∀ c : Dev nD,
      r.2.mem ((c.tc : Thread nD τ).loc main_v2) = m ((c.tc : Thread nD τ).loc main_arg0)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono (Cert.ReferenceIdeal.Value.run m ρ) fun _ h c => ⟨(h c).1.trans (Cert.Copy.select_same _ _), (h c).2⟩

/-- Its frame: the arguments end unchanged, and every semaphore counter is zero, since the program has none. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run m ρ) fun r h => ⟨fun c => (h c).2, sem_eq_zero_of_no_sems (by decide) r.2⟩

end Cert.ReferenceIdeal.Copy

end
-- ==== Proof.lean ====
module

public import proofs.«01_k».proof.Defs
public import proofs.«01_k».proof.Proof.Gen.Kernel.Frame
public import proofs.«01_k».proof.Proof.Gen.KernelIdeal.Frame
public import proofs.«01_k».proof.Proof.Copy.Kernel
public import proofs.«01_k».proof.Proof.Copy.Ideal
public import proofs.«01_k».proof.Proof.Copy.Reference

@[expose] public section

noncomputable section

namespace Cert.Proof

open Idealize.ShloMosaic Idealize.SL.Sem

/-- The kernel and the reference, run on words from the same arguments, end with the same words: the first argument's. -/
theorem bitexact : Cert.bitexact_Kernel_Reference := fun m g m' g' _ hagree =>
  ⟨fun c => m ((c.tc : Thread _ _).loc Cert.Kernel.main_arg0), Cert.Kernel.Copy.run m g,
    θ_run_mono (Cert.Reference.Copy.run m' g') fun _ h c => ⟨(h c).1.trans (hagree c).1, (h c).2⟩⟩

/-- Over the extended reals the kernel and the reference compute the same function: both return the first argument. -/
theorem algebraic : Cert.algebraic_KernelIdeal_ReferenceIdeal := fun m g m' g' _ hagree =>
  ⟨fun c => m ((c.tc : Thread _ _).loc Cert.KernelIdeal.main_arg0), Cert.KernelIdeal.Copy.run m g,
    θ_run_mono (Cert.ReferenceIdeal.Copy.run m' g') fun _ h c => ⟨(h c).1.trans (hagree c).1, (h c).2⟩⟩

/-- Everything claimed: the four frames, the two equalities, and that the ideal pass rewrote nothing. -/
theorem claim : Cert.Claim :=
  ⟨Cert.Kernel.Gen.facts, Cert.KernelIdeal.Gen.facts, Cert.Reference.Gen.facts, Cert.ReferenceIdeal.Gen.facts,
    fun m ρ _ => Cert.Kernel.Gen.frame m ρ, fun m ρ _ => Cert.KernelIdeal.Gen.frame m ρ,
    fun m ρ _ => Cert.Reference.Copy.frame m ρ, fun m ρ _ => Cert.ReferenceIdeal.Copy.frame m ρ,
    bitexact, trivial, algebraic⟩

end Cert.Proof

end
